-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512x512 : Shape := ⟨3, ![64, 512, 512]⟩
abbrev S1x1x2x2 : Shape := ⟨4, ![1, 1, 2, 2]⟩
abbrev S128x261121 : Shape := ⟨2, ![128, 261121]⟩
abbrev S128 : Shape := ⟨1, ![128]⟩
abbrev S1x4 : Shape := ⟨2, ![1, 4]⟩
abbrev S1x128 : Shape := ⟨2, ![1, 128]⟩
abbrev S261121x128 : Shape := ⟨2, ![261121, 128]⟩
abbrev S64x128 : Shape := ⟨2, ![64, 128]⟩
abbrev S64x32x512 : Shape := ⟨3, ![64, 32, 512]⟩
abbrev S16352x128 : Shape := ⟨2, ![16352, 128]⟩
abbrev S64x512 : Shape := ⟨2, ![64, 512]⟩
abbrev S1x1 : Shape := ⟨2, ![1, 1]⟩
abbrev S64x1x512 : Shape := ⟨3, ![64, 1, 512]⟩
abbrev S64x511 : Shape := ⟨2, ![64, 511]⟩
abbrev S64x16352 : Shape := ⟨2, ![64, 16352]⟩
abbrev S16352x1 : Shape := ⟨2, ![16352, 1]⟩

abbrev nBuf : Space → Nat
  | .hbm => 8
  | .vmem => 9
  | .smem => 0
  | _ => 0

abbrev bufTy : (tb : Table) → Fin (tcTables nBuf tb) → BufTy
  | .hbm, ⟨0, _⟩ => ⟨S64x512x512, .f32⟩
  | .hbm, ⟨1, _⟩ => ⟨S1x1x2x2, .f32⟩
  | .hbm, ⟨2, _⟩ => ⟨S128x261121, .f32⟩
  | .hbm, ⟨3, _⟩ => ⟨S128, .f32⟩
  | .hbm, ⟨4, _⟩ => ⟨S1x4, .f32⟩
  | .hbm, ⟨5, _⟩ => ⟨S1x128, .f32⟩
  | .hbm, ⟨6, _⟩ => ⟨S261121x128, .f32⟩
  | .hbm, ⟨7, _⟩ => ⟨S64x128, .f32⟩
  | .local _ .vmem, ⟨0, _⟩ => ⟨S1x4, .f32⟩
  | .local _ .vmem, ⟨1, _⟩ => ⟨S64x32x512, .f32⟩
  | .local _ .vmem, ⟨2, _⟩ => ⟨S64x32x512, .f32⟩
  | .local _ .vmem, ⟨3, _⟩ => ⟨S16352x128, .f32⟩
  | .local _ .vmem, ⟨4, _⟩ => ⟨S16352x128, .f32⟩
  | .local _ .vmem, ⟨5, _⟩ => ⟨S1x128, .f32⟩
  | .local _ .vmem, ⟨6, _⟩ => ⟨S64x128, .f32⟩
  | .local _ .vmem, ⟨7, _⟩ => ⟨S64x512, .f32⟩
  | .local _ .vmem, ⟨8, _⟩ => ⟨S64x128, .f32⟩
  | _, _ => ⟨S64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![16], ![false]⟩

def k0_cond4 (i : grid0.Coords) : BitVec 1 :=
  let arg0 : BitVec 32 := BitVec.ofNat 32 (i 0).val
  let c15_i32_80 : BitVec 32 := 15#32
  let v572 : BitVec 1 := Scalar.cmpi .eq arg0 c15_i32_80
  let v573 : BitVec 32 := Scalar.extui v572
  let c0_i32_81 : BitVec 32 := 0#32
  let v574 : BitVec 1 := Scalar.cmpi .ne v573 c0_i32_81
  v574

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16352x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S64x512x512 : Shape := ⟨3, ![64, 512, 512]⟩
abbrev S1x1x2x2 : Shape := ⟨4, ![1, 1, 2, 2]⟩
abbrev S128x261121 : Shape := ⟨2, ![128, 261121]⟩
abbrev S128 : Shape := ⟨1, ![128]⟩
abbrev S1x1x1x1 : Shape := ⟨4, ![1, 1, 1, 1]⟩
abbrev S_ : Shape := ⟨0, ![]⟩
abbrev S64x511x511 : Shape := ⟨3, ![64, 511, 511]⟩
abbrev S64x261121 : Shape := ⟨2, ![64, 261121]⟩
abbrev S261121x128 : Shape := ⟨2, ![261121, 128]⟩
abbrev S64x128 : Shape := ⟨2, ![64, 128]⟩
abbrev S1x128 : Shape := ⟨2, ![1, 128]⟩

abbrev nBuf : Space → Nat
  | .hbm => 35
  | .vmem => 0
  | .smem => 0
  | _ => 0

abbrev bufTy : (tb : Table) → Fin (tcTables nBuf tb) → BufTy
  | .hbm, ⟨0, _⟩ => ⟨S64x512x512, .f32⟩
  | .hbm, ⟨1, _⟩ => ⟨S1x1x2x2, .f32⟩
  | .hbm, ⟨2, _⟩ => ⟨S128x261121, .f32⟩
  | .hbm, ⟨3, _⟩ => ⟨S128, .f32⟩
  | .hbm, ⟨4, _⟩ => ⟨S1x1x1x1, .f32⟩
  | .hbm, ⟨5, _⟩ => ⟨S_, .f32⟩
  | .hbm, ⟨6, _⟩ => ⟨S64x511x511, .f32⟩
  | .hbm, ⟨7, _⟩ => ⟨S64x511x511, .f32⟩
  | .hbm, ⟨8, _⟩ => ⟨S64x511x511, .f32⟩
  | .hbm, ⟨9, _⟩ => ⟨S1x1x1x1, .f32⟩
  | .hbm, ⟨10, _⟩ => ⟨S_, .f32⟩
  | .hbm, ⟨11, _⟩ => ⟨S64x511x511, .f32⟩
  | .hbm, ⟨12, _⟩ => ⟨S64x511x511, .f32⟩
  | .hbm, ⟨13, _⟩ => ⟨S64x511x511, .f32⟩
  | .hbm, ⟨14, _⟩ => ⟨S64x511x511, .f32⟩
  | .hbm, ⟨15, _⟩ => ⟨S1x1x1x1, .f32⟩
  | .hbm, ⟨16, _⟩ => ⟨S_, .f32⟩
  | .hbm, ⟨17, _⟩ => ⟨S64x511x511, .f32⟩
  | .hbm, ⟨18, _⟩ => ⟨S64x511x511, .f32⟩
  | .hbm, ⟨19, _⟩ => ⟨S64x511x511, .f32⟩
  | .hbm, ⟨20, _⟩ => ⟨S64x511x511, .f32⟩
  | .hbm, ⟨21, _⟩ => ⟨S1x1x1x1, .f32⟩
  | .hbm, ⟨22, _⟩ => ⟨S_, .f32⟩
  | .hbm, ⟨23, _⟩ => ⟨S64x511x511, .f32⟩
  | .hbm, ⟨24, _⟩ => ⟨S64x511x511, .f32⟩
  | .hbm, ⟨25, _⟩ => ⟨S64x511x511, .f32⟩
  | .hbm, ⟨26, _⟩ => ⟨S64x511x511, .f32⟩
  | .hbm, ⟨27, _⟩ => ⟨S64x511x511, .f32⟩
  | .hbm, ⟨28, _⟩ => ⟨S64x261121, .f32⟩
  | .hbm, ⟨29, _⟩ => ⟨S261121x128, .f32⟩
  | .hbm, ⟨30, _⟩ => ⟨S64x128, .f32⟩
  | .hbm, ⟨31, _⟩ => ⟨S1x128, .f32⟩
  | .hbm, ⟨32, _⟩ => ⟨S64x128, .f32⟩
  | .hbm, ⟨33, _⟩ => ⟨S64x128, .f32⟩
  | .hbm, ⟨34, _⟩ => ⟨S64x128, .f32⟩
  | _, _ => ⟨S64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩

abbrev nD : Nat := 1
abbrev τ : Topo := Topo.v7x

variable {F : FTy → Type} [FloatOps F]
-- ==== Proof.KernelIdeal.Block.lean ====
/- What the kernel's body computes at one grid point, as functions of the blocks it reads and of the two values carried
   from the point before, in the kernel's own operations. -/
module

public import proofs.«01_k».proof.Proof.Gen.KernelIdeal.Skeleton
public import Idealize.ShloMosaic.Lib.Pipeline.Value

@[expose] public section

set_option maxRecDepth 16384

noncomputable section

namespace Cert.KernelIdeal.Body

open Cert.KernelIdeal Cert.KernelIdeal.Gen
open Idealize.ShloMosaic

variable {F : FTy → Type} [FloatOps F]

/-- Row `d` of the block of 32 image rows starts inside the block. -/
theorem row_inb (d : Fin 32) : ∀ a, (![0, d.val, 0] : Fin 3 → Nat) a + S64x1x512.size a ≤ S64x32x512.size a := by
  intro a
  have := d.isLt
  fin_cases a
  · exact Nat.le_of_eq rfl
  · show d.val + 1 ≤ 32; omega
  · exact Nat.le_of_eq rfl

/-- Row `d` of the block of image rows, for all 64 images. -/
def imgRow (x : Vec F S64x32x512 .f32) (d : Fin 32) : FVec F S64x512 .f32 :=
  shapeCast S64x512 (View.ld x (Rect.unit (s := S64x32x512) ![0, d.val, 0] S64x1x512.size (row_inb d)) : Vec F S64x1x512 .f32)
    shapeCasts_S64x1x512_S64x512

/-- The row under row `d`: the block's next row, and under the last one the row `r` carried from the point before. -/
def below (x : Vec F S64x32x512 .f32) (r : Vec F S64x512 .f32) (d : Fin 32) : FVec F S64x512 .f32 :=
  if h : d.val + 1 < 32 then imgRow x ⟨d.val + 1, h⟩ else r

/-- One row of the convolution with the hyperbolic tangent taken, from the two image rows it covers. -/
def convRow (w : Vec F S1x4 .f32) (top bot : FVec F S64x512 .f32) : FVec F S64x511 .bf16 :=
  tanh (addf
    (extractStridedSlice S64x511 ![0, 0] (addf
      (mulf (broadcastTo S64x512 (k0_pay10 w) broadcasts_S1x1_S64x512) (truncf .bf16 top bitsLt_bf16_f32))
      (mulf (broadcastTo S64x512 (k0_pay12 w) broadcasts_S1x1_S64x512) (truncf .bf16 bot bitsLt_bf16_f32))) slices_S64x512_o0_0_S64x511)
    (extractStridedSlice S64x511 ![0, 1] (addf
      (mulf (broadcastTo S64x512 (k0_pay11 w) broadcasts_S1x1_S64x512) (truncf .bf16 top bitsLt_bf16_f32))
      (mulf (broadcastTo S64x512 (k0_pay13 w) broadcasts_S1x1_S64x512) (truncf .bf16 bot bitsLt_bf16_f32))) slices_S64x512_o0_1_S64x511))

/-- The 32 rows of the convolution laid end to end. -/
def chunk (w : Vec F S1x4 .f32) (x : Vec F S64x32x512 .f32) (r : Vec F S64x512 .f32) : FVec F S64x16352 .bf16 :=
  concatenate S64x16352 1
    (List.ofFn fun d : Fin 32 => (⟨S64x511, convRow w (imgRow x d) (below x r d)⟩ : (s : Shape) × (s.Idx → F .bf16)))
    concatenates_S64x511_S64x511_S64x511_S64x511_S64x511_S64x511_S64x511_S64x511_S64x511_S64x511_S64x511_S64x511_S64x511_S64x511_S64x511_S64x511_S64x511_S64x511_S64x511_S64x511_S64x511_S64x511_S64x511_S64x511_S64x511_S64x511_S64x511_S64x511_S64x511_S64x511_S64x511_S64x511_S64x16352_d1

/-- The sum after the first point: the point's product, its weight rows past the end of the array masked to zero. -/
def accFirst (i : grid0.Coords) (w : Vec F S1x4 .f32) (x : Vec F S64x32x512 .f32) (d : Vec F S16352x128 .f32) : Vec F S64x128 .f32 :=
  k0_pay3 (Scalar.subi 15#32 (BitVec.ofNat 32 (i 0).val)) (extf .f32 (chunk w x k0_pay7) bitsLt_bf16_f32) d k0_pay8

/-- The sum after a later point: the point's product added to the sum `a` so far. -/
def accLater (w : Vec F S1x4 .f32) (x : Vec F S64x32x512 .f32) (d : Vec F S16352x128 .f32) (r : Vec F S64x512 .f32)
    (a : Vec F S64x128 .f32) : Vec F S64x128 .f32 :=
  k0_pay4 (extf .f32 (chunk w x r) bitsLt_bf16_f32) d a

/-- The row handed to the next point: the block's first row. -/
def rowOut (x : Vec F S64x32x512 .f32) : Vec F S64x512 .f32 :=
  k0_pay5 (View.ld x (Rect.unit (s := S64x32x512) ![0, 0, 0] S64x1x512.size inb_S64x32x512_S64x1x512_0_0_0) : Vec F S64x1x512 .f32)

/-- A store through the rectangle at zero offsets with the shape's own extents leaves its payload, whatever was there before. -/
theorem read_full_store {κ : Kind} {sp : Space} {S : Shape} {e : EltTy} (v : View sig κ sp S e) (f : v.ty.Contents (Elt F))
    {off : Fin S.rank → Nat} (inb : ∀ a, off a + S.size a ≤ S.size a) (h : ∀ a, off a = 0) (p : S.Idx → Elt F e)
    (L : List (View.Piece (Elt F) S e)) :
    v.read (Elt F) (v.writes (Elt F) f (⟨Rect.unit (s := S) off S.size inb, p⟩ :: L)) = p := by
  obtain rfl : off = fun _ => 0 := funext h
  rw [View.read_writes_eq_canon _ _ _ fun y => ⟨_, List.mem_cons_self, by
    show y ∈ (Rect.whole S).set
    rw [Rect.set_whole]; exact Finset.mem_univ y⟩]
  exact View.canon_cons_unit_zero rfl inb p L

end Cert.KernelIdeal.Body

end
-- ==== Proof.KernelIdeal.Cases.lean ====
/- The three kinds of grid point of the kernel (the first, the last, the ones between): its branch conditions in closed form,
   where the output window is left alone, and the memrefs the body is called on. -/
module

public import proofs.«01_k».proof.Proof.Gen.KernelIdeal.Frame

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The body's test for the first grid point (it zeroes the scratch and masks the weights there). -/
abbrev atFirst (i : grid0.Coords) : Prop := (Scalar.cmpi .ne (Scalar.extui (Scalar.cmpi .eq (BitVec.ofNat 32 (i 0).val) 0#32)) 0#32) = 1#1

/-- The body's test for a point after the first (it adds without a mask there). -/
abbrev atLater (i : grid0.Coords) : Prop := (Scalar.cmpi .ne (Scalar.extui (Scalar.cmpi .ne (BitVec.ofNat 32 (i 0).val) 0#32)) 0#32) = 1#1

/-- The body's test for the last grid point (it stores the output there). -/
abbrev atLast (i : grid0.Coords) : Prop := k0_cond4 i = 1#1

/-- The first test holds at point 0 exactly. -/
theorem atFirst_iff : ∀ t : Fin cfg0.N, atFirst (grid0.coords t) ↔ t.val = 0 := by decide +kernel

/-- The second holds at every other point. -/
theorem atLater_iff : ∀ t : Fin cfg0.N, atLater (grid0.coords t) ↔ t.val ≠ 0 := by decide +kernel

/-- The third holds at point 15 exactly. -/
theorem atLast_iff : ∀ t : Fin cfg0.N, atLast (grid0.coords t) ↔ t.val = 15 := by decide +kernel

/-! ## Where the output window is idle, and where a fetch is clipped -/

/-- The output window is idle at every point but the last. -/
theorem idle_out : ∀ t : Fin cfg0.N, t.val ≠ 15 → cfg0.idle 4 (grid0.coords t) = true := by decide +kernel

/-- Nothing is written back at these points. -/
theorem noFlush_out : ∀ t : Fin cfg0.N, t.val ≠ 15 → (cfg0.win 4).flush t = false := by decide +kernel

/-- At the last point the output window is in use. -/
theorem live_out : ∀ t : Fin cfg0.N, t.val = 15 → cfg0.idle 4 (grid0.coords t) = false := by decide +kernel

/-! ## The memrefs of a point -/

/-- The convolution's four weights. -/
abbrev mW (t : Fin cfg0.N) : Memref sig .tc .vmem S1x4 .f32 := win0_0.stage (cfg0.slots t 0)
/-- The block of 32 image rows. -/
abbrev mX (t : Fin cfg0.N) : Memref sig .tc .vmem S64x32x512 .f32 := win0_1.stage (cfg0.slots t 1)
/-- The block of rows of the dense layer's weights. -/
abbrev mD (t : Fin cfg0.N) : Memref sig .tc .vmem S16352x128 .f32 := win0_2.stage (cfg0.slots t 2)
/-- The bias. -/
abbrev mB (t : Fin cfg0.N) : Memref sig .tc .vmem S1x128 .f32 := win0_3.stage (cfg0.slots t 3)
/-- The output. -/
abbrev mO (t : Fin cfg0.N) : Memref sig .tc .vmem S64x128 .f32 := win0_4.stage (cfg0.slots t 4)
/-- The scratch carrying one image row to the next point. -/
abbrev sRow : Memref sig .tc .vmem S64x512 .f32 := Memref.whole cc0_scratch0
/-- The scratch carrying the accumulated sum. -/
abbrev sAcc : Memref sig .tc .vmem S64x128 .f32 := Memref.whole cc0_scratch1

/-- The buffer of convolution weights is used whole. -/
theorem hmW (t : Fin cfg0.N) : (mW t).IsWhole := hstage0_0 ((cfg0.slots t 0).cast nbuf0_0)
/-- The buffer of image rows is used whole. -/
theorem hmX (t : Fin cfg0.N) : (mX t).IsWhole := hstage0_1 ((cfg0.slots t 1).cast nbuf0_1)
/-- The buffer of dense-layer weights is used whole. -/
theorem hmD (t : Fin cfg0.N) : (mD t).IsWhole := hstage0_2 ((cfg0.slots t 2).cast nbuf0_2)
/-- The bias's buffer is used whole. -/
theorem hmB (t : Fin cfg0.N) : (mB t).IsWhole := hstage0_3 ((cfg0.slots t 3).cast nbuf0_3)
/-- The output's buffer is used whole. -/
theorem hmO (t : Fin cfg0.N) : (mO t).IsWhole := hstage0_4 ((cfg0.slots t 4).cast nbuf0_4)
/-- The scratch of the carried row is used whole. -/
theorem hsRow : sRow.IsWhole := Memref.isWhole_whole _
/-- The scratch of the sum is used whole. -/
theorem hsAcc : sAcc.IsWhole := Memref.isWhole_whole _

/-- The launch's resources at the region's entry: the two scratch buffers at some contents, and the pseudo-random register. -/
theorem PhiA_eq (c : Dev nD) :
    Pipeline.ΦA (Val := Elt F) spec0 c = (iprop(((∃ d, owns (c : Thread nD τ) sRow fullShare d) ∗ (∃ d, owns (c : Thread nD τ) sAcc fullShare d)) ∗ (∃ st, prngReg c st)) : sProp 𝕄) := by
  unfold Pipeline.ΦA; rw [scopedRest0_eq]; simp only [sRow, sAcc, owns_whole]; try rfl

end Cert.KernelIdeal.Body

end
-- ==== Proof.KernelIdeal.Mask.lean ====
/- The first grid point's mask on the weight rows past the end of the array: the point's sum does not read those rows. -/
module

public import proofs.«01_k».proof.Proof.KernelIdeal.Block
public import proofs.«01_k».proof.Proof.KernelIdeal.Cases
public import Idealize.ShloMosaic.Lib.Pointwise

@[expose] public section

set_option maxRecDepth 16384

noncomputable section

namespace Cert.KernelIdeal.Body

open Cert.KernelIdeal Cert.KernelIdeal.Gen
open Idealize.ShloMosaic

variable {F : FTy → Type} [FloatOps F]

/-- The body's weights pass through a shape cast to their own shape. -/
theorem k0_pay2_apply (d : Vec F S16352x128 .f32) (j : S16352x128.Idx) : k0_pay2 d j = d j := by
  unfold k0_pay2; pointwise

/-- The weights as the first point uses them: the rows inside the array, and zero on the rest. -/
def masked (d : Vec F S16352x128 .f32) : FVec F S16352x128 .f32 :=
  fun j => if (j 0).val < 15841 then d j else Scalar.ofBits .f32 0#32

/-- The first point's sum reads its weights through the mask. -/
theorem accFirst_eq (i : grid0.Coords) (hi : (i 0).val = 0) (w : Vec F S1x4 .f32) (x : Vec F S64x32x512 .f32) (d : Vec F S16352x128 .f32) :
    accFirst i w x d = k0_pay4 (extf .f32 (chunk w x k0_pay7) bitsLt_bf16_f32) (masked d) k0_pay8 := by
  unfold accFirst k0_pay3 k0_pay4
  rw [hi]
  dsimp only
  congr 3
  funext j
  pointwise
  have hj : (j 0).val < 16352 := (j 0).isLt
  rw [show Scalar.subi (261121#32) (Scalar.muli (16352#32) (Scalar.subi 15#32 0#32)) = BitVec.ofNat 32 15841 from rfl,
    k0_pay2_apply, k0_pay2_apply]
  have ht : IntOp.cmpi .slt (BitVec.ofNat 32 (j 0).val) (BitVec.ofNat 32 15841) = 1#1 ↔ (j 0).val < 15841 :=
    WordCmp.cmpi_slt_ofNat_eq_one_iff (by omega) (by decide)
  unfold masked
  by_cases h : (j 0).val < 15841
  · exact (if_pos (ht.mpr h)).trans (if_pos h).symm
  · exact (if_neg fun hh => h (ht.mp hh)).trans (if_neg h).symm

/-- Nothing the buffer of weights held past the end of the array reaches the first point's sum. -/
theorem accFirst_fill (t : Fin cfg0.N) (ht : t.val = 0) (w : Vec F S1x4 .f32) (x : Vec F S64x32x512 .f32)
    (d d' : Vec F S16352x128 .f32) (g : (win0_2.xblock (grid0.coords t)).Idx → Elt F .f32) :
    accFirst (grid0.coords t) w x (win0_2.fill (grid0.coords t) d g) = accFirst (grid0.coords t) w x (win0_2.fill (grid0.coords t) d' g) := by
  obtain rfl : t = ⟨0, by decide⟩ := Fin.ext ht
  rw [accFirst_eq _ (by decide), accFirst_eq _ (by decide)]
  refine congrArg (fun q => k0_pay4 _ q _) (funext fun j => ?_)
  unfold masked
  by_cases h : (j 0).val < 15841
  · rw [if_pos h, if_pos h]
    have hm : win0_2.moved (grid0.coords ⟨0, by decide⟩) j = true := (win0_2.moved_iff _ j).mpr fun a => by
      have e0 : win0_2.xsize (grid0.coords ⟨0, by decide⟩) 0 = 15841 := by decide +kernel
      have e1 : win0_2.xsize (grid0.coords ⟨0, by decide⟩) 1 = 128 := by decide +kernel
      fin_cases a
      · exact lt_of_lt_of_eq h e0.symm
      · exact lt_of_lt_of_eq (j 1).isLt e1.symm
    unfold Pipeline.Window.fill; rw [dif_pos hm, dif_pos hm]
  · rw [if_neg h, if_neg h]

end Cert.KernelIdeal.Body

end
-- ==== Proof.KernelIdeal.Payload.lean ====
/- One grid point's arithmetic over the extended reals, entry by entry: an entry of the convolution row, of the 32 rows laid end
   to end, and of the sum with the point's product added. -/
module

public import proofs.«01_k».proof.Proof.KernelIdeal.Mask
public import Idealize.ShloMosaic.Lib.Pipeline.ValueKit

@[expose] public section

set_option maxRecDepth 16384

noncomputable section

namespace Cert.KernelIdeal.Value

open Cert.KernelIdeal Cert.KernelIdeal.Gen Cert.KernelIdeal.Body
open Idealize.ShloMosaic

/-- Row `d` of the block, column `q`. -/
theorem imgRow_apply (x : FVec Ideal S64x32x512 .f32) (d : Fin 32) (n : Fin 64) (q : Fin 512) :
    imgRow (F := Ideal) x d (ix2 n q) = x (ix3 n d q) := by
  unfold imgRow
  pointwise

/-- The row handed on is the block's first row. -/
theorem rowOut_apply (x : FVec Ideal S64x32x512 .f32) (n : Fin 64) (q : Fin 512) :
    rowOut (F := Ideal) x (ix2 n q) = x (ix3 n 0 q) := by
  unfold rowOut k0_pay5
  pointwise

/-- An entry of the convolution row. -/
theorem convRow_apply (w : FVec Ideal S1x4 .f32) (top bot : FVec Ideal S64x512 .f32) (n : Fin 64) (q : Fin 511) :
    convRow (F := Ideal) w top bot (ix2 n q) =
      Ideal.tanh ((w (ix2 0 0) * top (ix2 n ⟨q.val, by omega⟩) + w (ix2 0 2) * bot (ix2 n ⟨q.val, by omega⟩))
        + (w (ix2 0 1) * top (ix2 n ⟨1 + q.val, by omega⟩) + w (ix2 0 3) * bot (ix2 n ⟨1 + q.val, by omega⟩))) := by
  unfold convRow k0_pay10 k0_pay11 k0_pay12 k0_pay13 k0_pay9
  pointwise

/-- An entry of the sum after a later point. -/
theorem k0_pay4_apply (p : FVec Ideal S64x16352 .f32) (d : FVec Ideal S16352x128 .f32) (a : FVec Ideal S64x128 .f32)
    (n : Fin 64) (o : Fin 128) :
    k0_pay4 (F := Ideal) p d a (ix2 n o) = a (ix2 n o) + ∑ k : Fin 16352, p (ix2 n k) * d (ix2 k o) := by
  unfold k0_pay4 k0_pay2
  pointwise

/-- The output's entry. -/
theorem k0_pay6_apply (a : FVec Ideal S64x128 .f32) (b : FVec Ideal S1x128 .f32) (n : Fin 64) (o : Fin 128) :
    k0_pay6 (F := Ideal) a b (ix2 n o) = Ideal.tanh (a (ix2 n o) + b (ix2 0 o)) := by
  unfold k0_pay6
  pointwise

/-- An entry of the 32 rows laid end to end: row `k / 511`, column `k % 511`. -/
theorem chunk_apply (w : FVec Ideal S1x4 .f32) (x : FVec Ideal S64x32x512 .f32) (r : FVec Ideal S64x512 .f32) (n : Fin 64) (k : Fin 16352) :
    extf .f32 (chunk (F := Ideal) w x r) bitsLt_bf16_f32 (ix2 n k) =
      convRow (F := Ideal) w (imgRow x ⟨k.val / 511, by omega⟩) (below x r ⟨k.val / 511, by omega⟩) (ix2 n ⟨k.val % 511, by omega⟩) := by
  refine Eq.trans (b := chunk (F := Ideal) w x r (ix2 n k)) (by pointwise) ?_
  unfold chunk
  refine concatenate_ofFn_apply (t := S64x16352) (s₁ := S64x511) (1 : Fin 2) (fun d : Fin 32 => convRow (F := Ideal) w (imgRow x d) (below x r d)) _ rfl 511 rfl (ix2 n k)
    ⟨k.val / 511, by omega⟩ rfl (ix2 n ⟨k.val % 511, by omega⟩) rfl fun b hb => ?_
  match b, hb with
  | ⟨0, _⟩, _ => rfl
  | ⟨1, _⟩, hb => exact absurd rfl hb

/-- An entry of the sum after the first point: the product over the weight rows the mask lets through. -/
theorem accFirst_apply (i : grid0.Coords) (hi : (i 0).val = 0) (w : FVec Ideal S1x4 .f32) (x : FVec Ideal S64x32x512 .f32)
    (d : FVec Ideal S16352x128 .f32) (n : Fin 64) (o : Fin 128) :
    accFirst (F := Ideal) i w x d (ix2 n o) = ∑ k : Fin 16352,
      extf .f32 (chunk (F := Ideal) w x (k0_pay7 (F := Ideal))) bitsLt_bf16_f32 (ix2 n k) * (if k.val < 15841 then d (ix2 k o) else 0) := by
  rw [accFirst_eq i hi, k0_pay4_apply]
  have h8 : k0_pay8 (F := Ideal) (ix2 n o) = (0 : EReal) := by unfold k0_pay8; pointwise
  rw [h8, zero_add]
  refine Finset.sum_congr rfl fun k _ => congrArg _ ?_
  unfold masked
  refine if_congr Iff.rfl rfl ?_
  pointwise

/-- The zero row at the first point. -/
theorem k0_pay7_apply (n : Fin 64) (q : Fin 512) : k0_pay7 (F := Ideal) (ix2 n q) = (0 : EReal) := by
  unfold k0_pay7; pointwise

end Cert.KernelIdeal.Value

end
-- ==== Proof.KernelIdeal.Spec.lean ====
/- The computation in plain mathematics over the extended reals: the convolution's entries after the hyperbolic tangent, laid end
   to end, and their product with the dense layer's weights; and the sum over the sixteen blocks as one sum over all rows. -/
module

public import proofs.«01_k».proof.Proof.KernelIdeal.Payload
public import Idealize.ShloMosaic.Lib.Pipeline.ValueKit

@[expose] public section

set_option maxRecDepth 16384

noncomputable section

namespace Cert.KernelIdeal.Value

open Cert.KernelIdeal Cert.KernelIdeal.Gen Cert.KernelIdeal.Body
open Idealize.ShloMosaic

variable (X : FVec Ideal S64x512x512 .f32) (W : FVec Ideal S1x1x2x2 .f32) (D : FVec Ideal S128x261121 .f32)

/-- The image's entry at row `r` and column `q`, zero outside the image. -/
def px (n : Fin 64) (r q : ℕ) : EReal :=
  if h : r < 512 ∧ q < 512 then X (ix3 n ⟨r, h.1⟩ ⟨q, h.2⟩) else 0

/-- Inside the image it is the image's entry. -/
theorem px_inside (n : Fin 64) (r q : ℕ) (hr : r < 512) (hq : q < 512) : px X n r q = X (ix3 n ⟨r, hr⟩ ⟨q, hq⟩) :=
  dif_pos ⟨hr, hq⟩

/-- Below the last row it is zero. -/
theorem px_below (n : Fin 64) (r q : ℕ) (hr : ¬r < 512) : px X n r q = 0 :=
  dif_neg fun h => hr h.1

/-- The convolution's entry at row `r` and column `q`, its hyperbolic tangent taken. -/
def conv (n : Fin 64) (r q : ℕ) : EReal :=
  Ideal.tanh ((W (ix4 0 0 0 0) * px X n r q + W (ix4 0 0 1 0) * px X n (r + 1) q)
    + (W (ix4 0 0 0 1) * px X n r (1 + q) + W (ix4 0 0 1 1) * px X n (r + 1) (1 + q)))

/-- The same laid end to end, 511 entries a row. -/
def feat (n : Fin 64) (k : ℕ) : EReal := conv X W n (k / 511) (k % 511)

/-- The dense layer's weight on entry `k`, zero past the last. -/
def wt (o : Fin 128) (k : ℕ) : EReal := if h : k < 261121 then D (ix2 o ⟨k, h⟩) else 0

/-- An entry that the dense layer uses, its four products added in the reference's order: sums over the extended reals may be
    taken in any order. -/
theorem feat_apply (n : Fin 64) (k : Fin 261121) :
    feat X W n k.val = Ideal.tanh
      (W (ix4 0 0 0 0) * X (ix3 n ⟨k.val / 511, by omega⟩ ⟨k.val % 511, by omega⟩)
        + W (ix4 0 0 0 1) * X (ix3 n ⟨k.val / 511, by omega⟩ ⟨1 + k.val % 511, by omega⟩)
        + W (ix4 0 0 1 0) * X (ix3 n ⟨1 + k.val / 511, by omega⟩ ⟨k.val % 511, by omega⟩)
        + W (ix4 0 0 1 1) * X (ix3 n ⟨1 + k.val / 511, by omega⟩ ⟨1 + k.val % 511, by omega⟩)) := by
  unfold feat conv
  rw [Nat.add_comm (k.val / 511) 1, px_inside X n _ _ (by omega) (by omega), px_inside X n _ _ (by omega) (by omega),
    px_inside X n _ _ (by omega) (by omega), px_inside X n _ _ (by omega) (by omega), add_add_add_comm, ← add_assoc]

/-- One term of the dense layer's sum. -/
def term (n : Fin 64) (o : Fin 128) (k : ℕ) : EReal := feat X W n k * wt D o k

/-- Blocks of `M` terms, summed block by block. -/
theorem sum_blocks (M : ℕ) (f : ℕ → EReal) : ∀ N : ℕ,
    ∑ s ∈ Finset.range N, ∑ k ∈ Finset.range M, f (M * s + k) = ∑ k ∈ Finset.range (M * N), f k
  | 0 => by simp
  | N + 1 => by rw [Finset.sum_range_succ, sum_blocks M f N, Nat.mul_succ, Finset.sum_range_add]

/-- The sixteen blocks of 16352 terms, taken from the last to the first, sum all 261121 terms: the rest are zero. -/
theorem sum_term (n : Fin 64) (o : Fin 128) :
    ∑ s ∈ Finset.range 16, ∑ k : Fin 16352, term X W D n o (16352 * (15 - s) + k.val)
      = ∑ k : Fin 261121, feat X W n k.val * D (ix2 o k) := by
  have h1 : ∀ s, ∑ k : Fin 16352, term X W D n o (16352 * (15 - s) + k.val)
      = ∑ k ∈ Finset.range 16352, term X W D n o (16352 * (15 - s) + k) := fun s =>
    Fin.sum_univ_eq_sum_range (fun k => term X W D n o (16352 * (15 - s) + k)) 16352
  rw [Finset.sum_congr rfl fun s _ => h1 s,
    Finset.sum_range_reflect (fun s => ∑ k ∈ Finset.range 16352, term X W D n o (16352 * s + k)) 16,
    sum_blocks, show 16352 * 16 = 261121 + 511 from rfl, Finset.sum_range_add,
    Finset.sum_eq_zero (s := Finset.range 511) fun k _ => by
      unfold term wt; rw [dif_neg (by omega), mul_zero],
    add_zero, ← Fin.sum_univ_eq_sum_range]
  refine Finset.sum_congr rfl fun k _ => ?_
  unfold term wt
  rw [dif_pos k.isLt]

end Cert.KernelIdeal.Value

end
-- ==== Proof.KernelIdeal.RunFirst.lean ====
/- The body's run at the first grid point, over the blocks and the scratch it finds. -/
module

public import proofs.«01_k».proof.Proof.KernelIdeal.Cases
public import Idealize.ShloMosaic.Lib.Pipeline.FrameBody
public import Idealize.ShloMosaic.Lib.Pipeline.ReadBack
public import proofs.«01_k».proof.Proof.KernelIdeal.Block
public import Idealize.ShloMosaic.Lib.Pipeline.ValueKit
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S1x4 .f32) (h1 : arg1.IsWhole) (arg2 : Memref sig .tc .vmem S64x32x512 .f32) (h2 : arg2.IsWhole)
  (arg3 : Memref sig .tc .vmem S16352x128 .f32) (h3 : arg3.IsWhole) (arg4 : Memref sig .tc .vmem S1x128 .f32) (h4 : arg4.IsWhole)
  (arg5 : Memref sig .tc .vmem S64x128 .f32) (h5 : arg5.IsWhole) (arg6 : Memref sig .tc .vmem S64x512 .f32) (h6 : arg6.IsWhole)
  (arg7 : Memref sig .tc .vmem S64x128 .f32) (h7 : arg7.IsWhole)
  (w : Vec F S1x4 .f32) (x : Vec F S64x32x512 .f32) (d : Vec F S16352x128 .f32) (b : Vec F S1x128 .f32) (o : Vec F S64x128 .f32)

set_option maxHeartbeats 1000000 in
/-- At the first point: whatever the two scratch buffers hold, the body leaves the block's first row in the one and the point's
    masked product in the other, and every window's buffer as it was. -/
theorem run_first (hf : atFirst i) (hl : ¬atLater i) (hz : ¬atLast i) (E : Set ℕ) (K : PUnit → sProp 𝕄) :
    iprop(owns (c : Thread nD τ) arg1 fullShare w ∗ owns (c : Thread nD τ) arg2 fullShare x ∗ owns (c : Thread nD τ) arg3 fullShare d ∗ owns (c : Thread nD τ) arg4 fullShare b ∗ owns (c : Thread nD τ) arg5 fullShare o
        ∗ (∃ r, owns (c : Thread nD τ) arg6 fullShare r) ∗ (∃ a, owns (c : Thread nD τ) arg7 fullShare a)
        ∗ (iprop(owns (c : Thread nD τ) arg1 fullShare w ∗ owns (c : Thread nD τ) arg2 fullShare x ∗ owns (c : Thread nD τ) arg3 fullShare d ∗ owns (c : Thread nD τ) arg4 fullShare b ∗ owns (c : Thread nD τ) arg5 fullShare o
            ∗ owns (c : Thread nD τ) arg6 fullShare (rowOut x) ∗ owns (c : Thread nD τ) arg7 fullShare (accFirst i w x d)) -∗ K ⟨⟩))
      ⊢ wp frame (wpE (defs₀ (F := F)) Variants.none c none) E (cc0__fused_kernel i arg1 h1 arg2 h2 arg3 h3 arg4 h4 arg5 h5 arg6 h6 arg7 h7) K := by
  simp only [cc0__fused_kernel_eq_skeleton]; unfold cc0__fused_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f1, %e1, H1⟩, ⟨%f2, %e2, H2⟩, ⟨%f3, %e3, H3⟩, ⟨%f4, %e4, H4⟩, ⟨%f5, %e5, H5⟩, ⟨%r6, %f6, -, H6⟩, ⟨%r7, %f7, -, H7⟩, Hk⟩
  obtain rfl := h1.eq_unread e1; obtain rfl := h2.eq_unread e2; obtain rfl := h3.eq_unread e3; obtain rfl := h4.eq_unread e4; obtain rfl := h5.eq_unread e5
  sl_exec (disch := first | sl_exact hf | sl_exact hl | sl_exact hz)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; swap; · iexact H6
    ipureintro
    exact (read_full_store _ _ inb_S64x512_S64x512_0_0 (by decide) _ _).trans (by frame_out; rfl)
  · iexists _; isplitr; swap; · iexact H7
    ipureintro
    refine (read_full_store _ _ inb_S64x128_S64x128_0_0 (by decide) _ _).trans ?_
    frame_out
    exact congrArg (fun q => k0_pay3 _ (extf .f32 q _) d _) rfl

end Cert.KernelIdeal.Body

end
-- ==== Proof.KernelIdeal.RunMid.lean ====
/- The body's run at a grid point between the first and the last, over the blocks and the scratch it finds. -/
module

public import proofs.«01_k».proof.Proof.KernelIdeal.RunFirst
public import Idealize.ShloMosaic.Lib.Pipeline.FrameBody
public import Idealize.ShloMosaic.Lib.Pipeline.ReadBack
public import proofs.«01_k».proof.Proof.KernelIdeal.Block
public import Idealize.ShloMosaic.Lib.Pipeline.ValueKit
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S1x4 .f32) (h1 : arg1.IsWhole) (arg2 : Memref sig .tc .vmem S64x32x512 .f32) (h2 : arg2.IsWhole)
  (arg3 : Memref sig .tc .vmem S16352x128 .f32) (h3 : arg3.IsWhole) (arg4 : Memref sig .tc .vmem S1x128 .f32) (h4 : arg4.IsWhole)
  (arg5 : Memref sig .tc .vmem S64x128 .f32) (h5 : arg5.IsWhole) (arg6 : Memref sig .tc .vmem S64x512 .f32) (h6 : arg6.IsWhole)
  (arg7 : Memref sig .tc .vmem S64x128 .f32) (h7 : arg7.IsWhole)
  (w : Vec F S1x4 .f32) (x : Vec F S64x32x512 .f32) (d : Vec F S16352x128 .f32) (b : Vec F S1x128 .f32) (o : Vec F S64x128 .f32)
  (r : Vec F S64x512 .f32) (a : Vec F S64x128 .f32)

set_option maxHeartbeats 1000000 in
/-- At a point between the first and the last: the body leaves the block's first row in the one scratch buffer and the sum with the
    point's product added in the other, and every window's buffer as it was. -/
theorem run_mid (hf : ¬atFirst i) (hl : atLater i) (hz : ¬atLast i) (E : Set ℕ) (K : PUnit → sProp 𝕄) :
    iprop(owns (c : Thread nD τ) arg1 fullShare w ∗ owns (c : Thread nD τ) arg2 fullShare x ∗ owns (c : Thread nD τ) arg3 fullShare d ∗ owns (c : Thread nD τ) arg4 fullShare b ∗ owns (c : Thread nD τ) arg5 fullShare o
        ∗ owns (c : Thread nD τ) arg6 fullShare r ∗ owns (c : Thread nD τ) arg7 fullShare a
        ∗ (iprop(owns (c : Thread nD τ) arg1 fullShare w ∗ owns (c : Thread nD τ) arg2 fullShare x ∗ owns (c : Thread nD τ) arg3 fullShare d ∗ owns (c : Thread nD τ) arg4 fullShare b ∗ owns (c : Thread nD τ) arg5 fullShare o
            ∗ owns (c : Thread nD τ) arg6 fullShare (rowOut x) ∗ owns (c : Thread nD τ) arg7 fullShare (accLater w x d r a)) -∗ K ⟨⟩))
      ⊢ wp frame (wpE (defs₀ (F := F)) Variants.none c none) E (cc0__fused_kernel i arg1 h1 arg2 h2 arg3 h3 arg4 h4 arg5 h5 arg6 h6 arg7 h7) K := by
  simp only [cc0__fused_kernel_eq_skeleton]; unfold cc0__fused_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, Hk⟩
  obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7
  sl_exec (disch := first | sl_exact hf | sl_exact hl | sl_exact hz)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; swap; · iexact H6
    ipureintro
    exact (read_full_store _ _ inb_S64x512_S64x512_0_0 (by decide) _ _).trans (by frame_out; rfl)
  · iexists _; isplitr; swap; · iexact H7
    ipureintro
    refine (read_full_store _ _ inb_S64x128_S64x128_0_0 (by decide) _ _).trans ?_
    frame_out
    exact congrArg (fun q => k0_pay4 (extf .f32 q _) d a) rfl

end Cert.KernelIdeal.Body

end
-- ==== Proof.KernelIdeal.RunLast.lean ====
/- The body's run at the last grid point, over the blocks and the scratch it finds. -/
module

public import proofs.«01_k».proof.Proof.KernelIdeal.RunMid
public import Idealize.ShloMosaic.Lib.Pipeline.FrameBody
public import Idealize.ShloMosaic.Lib.Pipeline.ReadBack
public import proofs.«01_k».proof.Proof.KernelIdeal.Block
public import Idealize.ShloMosaic.Lib.Pipeline.ValueKit
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S1x4 .f32) (h1 : arg1.IsWhole) (arg2 : Memref sig .tc .vmem S64x32x512 .f32) (h2 : arg2.IsWhole)
  (arg3 : Memref sig .tc .vmem S16352x128 .f32) (h3 : arg3.IsWhole) (arg4 : Memref sig .tc .vmem S1x128 .f32) (h4 : arg4.IsWhole)
  (arg5 : Memref sig .tc .vmem S64x128 .f32) (h5 : arg5.IsWhole) (arg6 : Memref sig .tc .vmem S64x512 .f32) (h6 : arg6.IsWhole)
  (arg7 : Memref sig .tc .vmem S64x128 .f32) (h7 : arg7.IsWhole)
  (w : Vec F S1x4 .f32) (x : Vec F S64x32x512 .f32) (d : Vec F S16352x128 .f32) (b : Vec F S1x128 .f32) (o : Vec F S64x128 .f32)
  (r : Vec F S64x512 .f32) (a : Vec F S64x128 .f32)

set_option maxHeartbeats 1000000 in
/-- At the last point: as at the points between, and the output's buffer holds the hyperbolic tangent of the sum plus the bias. -/
theorem run_last (hf : ¬atFirst i) (hl : atLater i) (hz : atLast i) (E : Set ℕ) (K : PUnit → sProp 𝕄) :
    iprop(owns (c : Thread nD τ) arg1 fullShare w ∗ owns (c : Thread nD τ) arg2 fullShare x ∗ owns (c : Thread nD τ) arg3 fullShare d ∗ owns (c : Thread nD τ) arg4 fullShare b ∗ owns (c : Thread nD τ) arg5 fullShare o
        ∗ owns (c : Thread nD τ) arg6 fullShare r ∗ owns (c : Thread nD τ) arg7 fullShare a
        ∗ (iprop(owns (c : Thread nD τ) arg1 fullShare w ∗ owns (c : Thread nD τ) arg2 fullShare x ∗ owns (c : Thread nD τ) arg3 fullShare d ∗ owns (c : Thread nD τ) arg4 fullShare b ∗ owns (c : Thread nD τ) arg5 fullShare (k0_pay6 (accLater w x d r a) b)
            ∗ owns (c : Thread nD τ) arg6 fullShare (rowOut x) ∗ owns (c : Thread nD τ) arg7 fullShare (accLater w x d r a)) -∗ K ⟨⟩))
      ⊢ wp frame (wpE (defs₀ (F := F)) Variants.none c none) E (cc0__fused_kernel i arg1 h1 arg2 h2 arg3 h3 arg4 h4 arg5 h5 arg6 h6 arg7 h7) K := by
  simp only [cc0__fused_kernel_eq_skeleton]; unfold cc0__fused_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, Hk⟩
  obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7
  sl_exec (disch := first | sl_exact hf | sl_exact hl | sl_exact hz)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; swap; · iexact H5
    ipureintro
    refine (read_full_store _ _ inb_S64x128_S64x128_0_0 (by decide) _ _).trans ?_
    frame_out
    exact congrArg (fun q => k0_pay6 (k0_pay4 (extf .f32 q _) d a) b) rfl
  isplitl [H6]
  · iexists _; isplitr; swap; · iexact H6
    ipureintro
    exact (read_full_store _ _ inb_S64x512_S64x512_0_0 (by decide) _ _).trans (by frame_out; rfl)
  · iexists _; isplitr; swap; · iexact H7
    ipureintro
    refine (read_full_store _ _ inb_S64x128_S64x128_0_0 (by decide) _ _).trans ?_
    frame_out
    exact congrArg (fun q => k0_pay4 (extf .f32 q _) d a) rfl

end Cert.KernelIdeal.Body

end
-- ==== Proof.KernelIdeal.Frame.lean ====
/- The kernel's whole run: what each window's buffer and each scratch buffer holds after every grid point, the body's
   obligation at every point, and from it the run of the program and its frame. -/
module

public import proofs.«01_k».proof.Proof.KernelIdeal.RunLast
public import proofs.«01_k».proof.Proof.KernelIdeal.Mask

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- The weight rows of point `t`, zero in place of the rows past the end of the array. -/
def dblk (c : Dev nD) (t : Fin cfg0.N) : Vec F S16352x128 .f32 :=
  win0_2.fill (grid0.coords t) (fun _ => Scalar.ofBits .f32 0#32) (iblk m c 2 t)

/-- The accumulated sum after point `n`. -/
def sumAt (c : Dev nD) : (n : ℕ) → n < cfg0.N → Vec F S64x128 .f32
  | 0, h => accFirst (grid0.coords ⟨0, h⟩) (iblk m c 0 ⟨0, h⟩) (iblk m c 1 ⟨0, h⟩) (dblk m c ⟨0, h⟩)
  | n + 1, h => accLater (iblk m c 0 ⟨n + 1, h⟩) (iblk m c 1 ⟨n + 1, h⟩) (dblk m c ⟨n + 1, h⟩)
      (rowOut (iblk m c 1 ⟨n, Nat.lt_of_succ_lt h⟩)) (sumAt c n (Nat.lt_of_succ_lt h))

/-- The sum after the first point. -/
theorem sumAt_first (c : Dev nD) (t : Fin cfg0.N) (ht : t.val = 0) :
    sumAt m c t.val t.isLt = accFirst (grid0.coords t) (iblk m c 0 t) (iblk m c 1 t) (dblk m c t) := by
  obtain ⟨n, hn⟩ := t
  obtain rfl : n = 0 := ht
  rfl

/-- The sum after a later point, from the point before. -/
theorem sumAt_later (c : Dev nD) (t : Fin cfg0.N) (ht : t.val ≠ 0) :
    sumAt m c t.val t.isLt = accLater (iblk m c 0 t) (iblk m c 1 t) (dblk m c t)
      (rowOut (iblk m c 1 ⟨t.val - 1, by omega⟩)) (sumAt m c (t.val - 1) (by omega)) := by
  obtain ⟨n, hn⟩ := t
  cases n with
  | zero => exact absurd rfl ht
  | succ n => rfl

/-- The two scratch buffers and the pseudo-random register between points: before the first at anything, after point `n` the
    carried row and the sum of that point. -/
def PhiS (c : Dev nD) : (n : ℕ) → n ≤ cfg0.N → sProp 𝕄
  | 0, _ => Pipeline.ΦA spec0 c
  | n + 1, hn => iprop((owns (c : Thread nD τ) sRow fullShare (rowOut (iblk m c 1 ⟨n, hn⟩)) ∗ owns (c : Thread nD τ) sAcc fullShare (sumAt m c n hn)) ∗ (∃ st, prngReg c st))

/-- Before the first point the scratch holds anything. -/
theorem PhiS_first (c : Dev nD) (n : ℕ) (h : n ≤ cfg0.N) (hz : n = 0) : PhiS m c n h = Pipeline.ΦA spec0 c := by
  subst hz; rfl

/-- Before a later point it holds what the point before left. -/
theorem PhiS_later (c : Dev nD) (n : ℕ) (h : n ≤ cfg0.N) (hz : n ≠ 0) :
    PhiS m c n h = iprop((owns (c : Thread nD τ) sRow fullShare (rowOut (iblk m c 1 ⟨n - 1, by omega⟩)) ∗ owns (c : Thread nD τ) sAcc fullShare (sumAt m c (n - 1) (by omega))) ∗ (∃ st, prngReg c st)) := by
  cases n with
  | zero => exact absurd rfl hz
  | succ n => rfl

/-- The pipeline's proof data: the arrays as the region finds them, every input left in its buffer, the output's buffer at
    the finished sum, the scratch between points as `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => dblk m c t
    | ⟨3, _⟩ => iblk m c 3 t
    | ⟨4, _⟩ => k0_pay6 (sumAt m c t.val t.isLt) (iblk m c 3 t)
  Φ t := PhiS m c t.val (Nat.le_of_lt_succ t.isLt)
  q _ := fullShare
  owed _ := 0

/-- The proof data start from the arrays as the region finds them. -/
theorem A_eq (c : Dev nD) (w : Fin cfg0.W) : (dats m 0 c).A w = V m c (Pipeline.arrRef spec0 w) := by
  dsimp only [dats]

/-- The convolution weights stay in their buffer. -/
theorem after_0 (c : Dev nD) (t : Fin cfg0.N) : (dats m 0 c).after 0 t = iblk m c 0 t := by dsimp only [dats]
/-- The image rows stay in their buffer. -/
theorem after_1 (c : Dev nD) (t : Fin cfg0.N) : (dats m 0 c).after 1 t = iblk m c 1 t := by dsimp only [dats]
/-- The dense-layer weights stay in their buffer. -/
theorem after_2 (c : Dev nD) (t : Fin cfg0.N) : (dats m 0 c).after 2 t = dblk m c t := by dsimp only [dats]
/-- The bias stays in its buffer. -/
theorem after_3 (c : Dev nD) (t : Fin cfg0.N) : (dats m 0 c).after 3 t = iblk m c 3 t := by dsimp only [dats]
/-- The output's buffer after the last point: the finished sum with the bias added, its hyperbolic tangent taken. -/
theorem after_4 (c : Dev nD) (t : Fin cfg0.N) : (dats m 0 c).after 4 t = k0_pay6 (sumAt m c t.val t.isLt) (iblk m c 3 t) := by dsimp only [dats]

/-- The weights' buffer, fetched at every point: the block's rows, and past the array's end whatever it held. -/
theorem before_2 (c : Dev nD) (t : Fin cfg0.N) (d) : (dats m 0 c).before 2 t d = win0_2.fill (grid0.coords t) d (iblk m c 2 t) := by
  unfold Dat.before; rw [if_pos (fetch0_2 t)]; rfl

/-- No fetch of weights after the first is clipped. -/
theorem clip_none : ∀ t : Fin cfg0.N, t.val ≠ 0 → ∀ a, (cfg0.win 2).clip (grid0.coords t) a = none := by decide +kernel

/-- After the first point the buffer of weights is the block itself, whatever it held. -/
theorem fill_later (c : Dev nD) (t : Fin cfg0.N) (ht : t.val ≠ 0) (d) : win0_2.fill (grid0.coords t) d (iblk m c 2 t) = dblk m c t :=
  Pipeline.fill_of_clip_none (cfg := cfg0) 2 (grid0.coords t) (clip_none t ht) d _ _

/-- At the first point the sum is the same whatever the buffer held past the array's end. -/
theorem fill_first (c : Dev nD) (t : Fin cfg0.N) (ht : t.val = 0) (d) :
    accFirst (grid0.coords t) (iblk m c 0 t) (iblk m c 1 t) (win0_2.fill (grid0.coords t) d (iblk m c 2 t)) = sumAt m c t.val t.isLt :=
  (accFirst_fill t ht _ _ _ _ _).trans (sumAt_first m c t ht).symm

/-! ## The body's obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (mW t) fullShare ((dats m 0 c).before 0 t d))
    ∗ (∃ d, owns (c : Thread nD τ) (mX t) fullShare ((dats m 0 c).before 1 t d))
    ∗ (∃ d, owns (c : Thread nD τ) (mD t) fullShare ((dats m 0 c).before 2 t d))
    ∗ (∃ d, owns (c : Thread nD τ) (mB t) fullShare ((dats m 0 c).before 3 t d))
    ∗ (∃ d, owns (c : Thread nD τ) (mO t) fullShare ((dats m 0 c).before 4 t d)))

/-- What it returns: the weights' buffer only on the rows inside the array. -/
def bodyPost (c : Dev nD) (t : Fin cfg0.N) : sProp 𝕄 :=
  iprop((dats m 0 c).Φ t.succ ∗ (dats m 0 c).owesAt () t.succ
    ∗ owns (c : Thread nD τ) (mW t) fullShare ((dats m 0 c).after 0 t)
    ∗ owns (c : Thread nD τ) (mX t) fullShare ((dats m 0 c).after 1 t)
    ∗ (∃ d, owns (c : Thread nD τ) (mD t) fullShare (win0_2.fill (grid0.coords t) d (win0_2.cut (grid0.coords t) ((dats m 0 c).after 2 t))))
    ∗ owns (c : Thread nD τ) (mB t) fullShare ((dats m 0 c).after 3 t)
    ∗ (dats m 0 c).leavesExact 4 t)

/-- The rows inside the array of the filled-out block are the block fetched. -/
theorem cut_dblk (c : Dev nD) (t : Fin cfg0.N) : win0_2.cut (grid0.coords t) (dblk m c t) = iblk m c 2 t :=
  win0_2.cut_fill _ _ _

/-- The body at any point takes what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after_0 m c), before0_1_of m (dats m 0 c) (A_eq m c 1) (after_1 m c),
    before0_3_of m (dats m 0 c) (A_eq m c 3) (after_3 m c), before_2, after_0, after_1, after_2, after_3]
  rw [show (dats m 0 c).owesAt () t.succ = (dats m 0 c).owesAt () t.castSucc from rfl]
  rw [show (dats m 0 c).Φ t.succ = iprop((owns (c : Thread nD τ) sRow fullShare (rowOut (iblk m c 1 t)) ∗ owns (c : Thread nD τ) sAcc fullShare (sumAt m c t.val t.isLt)) ∗ (∃ st, prngReg c st)) from rfl]
  rw [show (dats m 0 c).Φ t.castSucc = PhiS m c t.val (Nat.le_of_lt t.isLt) from by dsimp only [dats]; exact Pipeline.Dat.Φ_castSucc (PhiS m c) t]
  by_cases h0 : t.val = 0
  · rw [PhiS_first m c _ _ h0, PhiA_eq]
    iintro ⟨⟨⟨HS0, HS1⟩, Hg⟩, Ho, ⟨%d0, H0⟩, ⟨%d1, H1⟩, ⟨%d2, H2⟩, ⟨%d3, H3⟩, ⟨%d4, H4⟩⟩
    rw [← fill_first m c t h0 d2]
    iapply run_first c (grid0.coords t) _ (hmW t) _ (hmX t) _ (hmD t) _ (hmB t) _ (hmO t) _ hsRow _ hsAcc _ _ _ _ _
      ((atFirst_iff t).mpr h0) (fun h => (atLater_iff t).mp h h0) (fun h => by have := (atLast_iff t).mp h; omega) Set.univ _
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hg]
    · isplitl [HS0 HS1]
      · isplitl [HS0]
        · iexact HS0
        · iexact HS1
      · iexact Hg
    isplitl [Ho]; · iexact Ho
    isplitl [H0]; · iexact H0
    isplitl [H1]; · iexact H1
    isplitl [H2]; · iexists d2; rw [cut_dblk]; iexact H2
    isplitl [H3]; · iexact H3
    rw [Dat.leavesExact_idle (dats m 0 c) 4 t (idle_out t (by omega)) (noFlush_out t (by omega))]
    iexists d4; iexact H4
  · rw [PhiS_later m c _ _ h0, sumAt_later m c t h0]
    by_cases h15 : t.val = 15
    · iintro ⟨⟨⟨HS0, HS1⟩, Hg⟩, Ho, ⟨%d0, H0⟩, ⟨%d1, H1⟩, ⟨%d2, H2⟩, ⟨%d3, H3⟩, ⟨%d4, H4⟩⟩
      rw [fill_later m c t h0 d2]
      iapply run_last c (grid0.coords t) _ (hmW t) _ (hmX t) _ (hmD t) _ (hmB t) _ (hmO t) _ hsRow _ hsAcc _ _ _ _ _ _ _
        (fun h => h0 ((atFirst_iff t).mp h)) ((atLater_iff t).mpr h0) ((atLast_iff t).mpr h15) Set.univ _
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]
          · iexact HS0
          · iexact HS1
        · iexact Hg
      isplitl [Ho]; · iexact Ho
      isplitl [H0]; · iexact H0
      isplitl [H1]; · iexact H1
      isplitl [H2]; · iexists d2; rw [cut_dblk, fill_later m c t h0 d2]; iexact H2
      isplitl [H3]; · iexact H3
      rw [show (dats m 0 c).leavesExact 4 t = owns (c : Thread nD τ) (mO t) fullShare ((dats m 0 c).after 4 t) from by
        unfold Dat.leavesExact; rw [live_out t h15], after_4, sumAt_later m c t h0]
      iexact H4
    · iintro ⟨⟨⟨HS0, HS1⟩, Hg⟩, Ho, ⟨%d0, H0⟩, ⟨%d1, H1⟩, ⟨%d2, H2⟩, ⟨%d3, H3⟩, ⟨%d4, H4⟩⟩
      rw [fill_later m c t h0 d2]
      iapply run_mid c (grid0.coords t) _ (hmW t) _ (hmX t) _ (hmD t) _ (hmB t) _ (hmO t) _ hsRow _ hsAcc _ _ _ _ _ _ _
        (fun h => h0 ((atFirst_iff t).mp h)) ((atLater_iff t).mpr h0) (fun h => h15 ((atLast_iff t).mp h)) Set.univ _
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]
          · iexact HS0
          · iexact HS1
        · iexact Hg
      isplitl [Ho]; · iexact Ho
      isplitl [H0]; · iexact H0
      isplitl [H1]; · iexact H1
      isplitl [H2]; · iexists d2; rw [cut_dblk, fill_later m c t h0 d2]; iexact H2
      isplitl [H3]; · iexact H3
      rw [Dat.leavesExact_idle (dats m 0 c) 4 t (idle_out t h15) (noFlush_out t h15)]
      iexists d4; iexact H4

/-- The body called at a point is the kernel at that point's buffers. -/
theorem defs₀_row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : Pipeline.BodyObligationLoose (dats (F := F) m 0 c) (defs₀ (F := F)) Variants.none () Set.univ := fun t => by
  rw [bigSep_W0, bigSep_W0, defs₀_row]
  exact triple_restated (sound_body m c t) rfl .rfl fun _ => .rfl

/-! ## The run -/

/-- What the region starts with is the invariant before the first point. -/
theorem hin (c : Dev nD) : Pipeline.ΦA spec0 c ⊢ (dats m 0 c).Φ 0 := by
  rw [show (dats m 0 c).Φ 0 = PhiS m c 0 (Nat.zero_le _) from rfl, PhiS_first m c 0 _ rfl]

/-- The invariant after the last point gives it back. -/
theorem hout (c : Dev nD) : (dats m 0 c).Φ (Fin.last cfg0.N) ⊢ Pipeline.ΦA spec0 c := by
  rw [show (dats m 0 c).Φ (Fin.last cfg0.N) = PhiS m c cfg0.N (Nat.le_refl _) from rfl,
    PhiS_later m c _ _ (by rw [show cfg0.N = 16 from N_0]; decide), PhiA_eq]
  iintro ⟨⟨HS0, HS1⟩, Hg⟩
  isplitl [HS0 HS1]
  · isplitl [HS0]
    · iexists _; iexact HS0
    · iexists _; iexact HS1
  · iexact Hg

set_option backward.isDefEq.respectTransparency.types false in
/-- Every execution of the program ends, with every array of the pipeline at what the proof data give, every other buffer as the
    region found it, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

/-- The same without the counters. -/
theorem run_post : θ_run defs (onTc (τ := τ) (main (F := F))) (s₀ m ρ) (Pipeline.FramePost cfgs (dats m) 0 (V m)) :=
  (θ_run defs _ _).mono (fun _ h => h.1) (run_quiescent m ρ)

/-- The frame: every execution ends, the argument arrays as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_post m ρ)) ((θ_run defs _ _).mono (fun _ h => h.2) (run_quiescent m ρ))

end Cert.KernelIdeal.Body

end
-- ==== Proof.KernelIdeal.Arrays.lean ====
/- What the blocks the body reads at a grid point hold, as entries of the program's argument arrays. -/
module

public import proofs.«01_k».proof.Proof.KernelIdeal.Frame
public import Idealize.ShloMosaic.Lib.Pipeline.ValueKit
public import Idealize.ShloMosaic.Lib.Claim

@[expose] public section

set_option maxRecDepth 16384

noncomputable section

namespace Cert.KernelIdeal.Value

open Cert.KernelIdeal Cert.KernelIdeal.Gen Cert.KernelIdeal.Body
open Idealize.ShloMosaic Idealize.ShloMosaic.TcCoe

variable (m : (ℓ : Loc nD τ sig) → Buf (Elt Ideal) ℓ)

/-- The windows' block indices: the image and the weights are walked from their last block to their first. -/
theorem idx : ∀ t : Fin cfg0.N, win0_0.index t = ![0, 0] ∧ win0_1.index t = ![0, 15 - t.val, 0] ∧ win0_2.index t = ![15 - t.val, 0]
    ∧ win0_3.index t = ![0, 0] ∧ win0_4.index t = ![0, 0] ∧ t.val < 16 :=
  (by decide +kernel : ∀ t : Fin grid0.N, _)

/-- The four convolution weights, flattened. -/
theorem iblk0_apply (c : Dev nD) (t : Fin cfg0.N) (k : Fin 4) :
    iblk m c 0 t (ix2 0 k) = m ((c : Thread nD τ).loc main_arg1) (ix4 0 0 ⟨k.val / 2, by omega⟩ ⟨k.val % 2, by omega⟩) := by
  blk_simp [iblk, idx t]
  entry_read
  pointwise
  blk_ext [idx t]

/-- The block of image rows. -/
theorem iblk1_apply (c : Dev nD) (t : Fin cfg0.N) (n : Fin 64) (d : Fin 32) (q : Fin 512) :
    iblk m c 1 t (ix3 n d q) = m ((c : Thread nD τ).loc main_arg0) (ix3 n ⟨32 * (15 - t.val) + d.val, by omega⟩ q) := by
  blk_ext [iblk, V, idx t]

/-- The bias. -/
theorem iblk3_apply (c : Dev nD) (t : Fin cfg0.N) (o : Fin 128) :
    iblk m c 3 t (ix2 0 o) = m ((c : Thread nD τ).loc main_arg3) (ix1 o) := by
  blk_simp [iblk, idx t]
  entry_read
  pointwise
  blk_ext [idx t]

/-- The transposed weights of the dense layer. -/
theorem V_main_v2_apply (c : Dev nD) (k : Fin 261121) (o : Fin 128) :
    V m c main_v2 (ix2 k o) = m ((c : Thread nD τ).loc main_arg2) (ix2 o k) := by
  entry_read
  pointwise

/-- How much of its block a fetch of weights moves. -/
theorem rows_inside : ∀ t : Fin cfg0.N, win0_2.xsize (grid0.coords t) 0 = (if t.val = 0 then 15841 else 16352) ∧ win0_2.xsize (grid0.coords t) 1 = 128 :=
  (by decide +kernel : ∀ t : Fin grid0.N, _)

/-- The block of dense-layer weights, on the rows inside the array. -/
theorem dblk_apply (c : Dev nD) (t : Fin cfg0.N) (k : Fin 16352) (o : Fin 128) (h : 16352 * (15 - t.val) + k.val < 261121) :
    dblk m c t (ix2 k o) = m ((c : Thread nD τ).loc main_arg2) (ix2 o ⟨16352 * (15 - t.val) + k.val, h⟩) := by
  have hm : win0_2.moved (grid0.coords t) (ix2 k o) = true := (win0_2.moved_iff _ _).mpr fun a => by
    fin_cases a
    · refine lt_of_lt_of_eq ?_ (rows_inside t).1.symm
      show k.val < _
      split <;> omega
    · exact lt_of_lt_of_eq o.isLt (rows_inside t).2.symm
  unfold dblk Pipeline.Window.fill
  rw [dif_pos hm]
  blk_simp [iblk, idx t]
  refine Eq.trans (congrArg (V m c main_v2) ?_) (V_main_v2_apply m c ⟨16352 * (15 - t.val) + k.val, h⟩ o)
  blk_ext [idx t]

end Cert.KernelIdeal.Value

end
-- ==== Proof.KernelIdeal.Sum.lean ====
/- The accumulated sum after each grid point, and the output array: the hyperbolic tangent of the dense layer over all rows. -/
module

public import proofs.«01_k».proof.Proof.KernelIdeal.Spec
public import proofs.«01_k».proof.Proof.KernelIdeal.Arrays

@[expose] public section

set_option maxRecDepth 16384

noncomputable section

namespace Cert.KernelIdeal.Value

open Cert.KernelIdeal Cert.KernelIdeal.Gen Cert.KernelIdeal.Body
open Idealize.ShloMosaic Idealize.ShloMosaic.TcCoe

variable (m : (ℓ : Loc nD τ sig) → Buf (Elt Ideal) ℓ)

/-- The images as launched. -/
abbrev aX (c : Dev nD) : FVec Ideal S64x512x512 .f32 := m ((c : Thread nD τ).loc main_arg0)
/-- The convolution's weights as launched. -/
abbrev aW (c : Dev nD) : FVec Ideal S1x1x2x2 .f32 := m ((c : Thread nD τ).loc main_arg1)
/-- The dense layer's weights as launched. -/
abbrev aD (c : Dev nD) : FVec Ideal S128x261121 .f32 := m ((c : Thread nD τ).loc main_arg2)
/-- The bias as launched. -/
abbrev aB (c : Dev nD) : FVec Ideal S128 .f32 := m ((c : Thread nD τ).loc main_arg3)

/-- A row of the point's image block, as a row of the image. -/
theorem imgRow_px (c : Dev nD) (t : Fin cfg0.N) (d : Fin 32) (n : Fin 64) (q : Fin 512) :
    imgRow (F := Ideal) (iblk m c 1 t) d (ix2 n q) = px (aX m c) n (32 * (15 - t.val) + d.val) q.val := by
  rw [px_inside _ _ _ _ (by omega) q.isLt]
  exact (imgRow_apply _ d n q).trans (iblk1_apply m c t n d q)

/-- The row under it: the next row of the image, if the carried row is the first of the block below. -/
theorem below_px (c : Dev nD) (t : Fin cfg0.N) (r : FVec Ideal S64x512 .f32)
    (hr : ∀ (n : Fin 64) (q : Fin 512), r (ix2 n q) = px (aX m c) n (32 * (15 - t.val) + 32) q.val) (d : Fin 32) (n : Fin 64) (q : Fin 512) :
    below (F := Ideal) (iblk m c 1 t) r d (ix2 n q) = px (aX m c) n (32 * (15 - t.val) + d.val + 1) q.val := by
  unfold below
  split
  · exact imgRow_px m c t _ n q
  · rw [hr, show d.val = 31 by omega]

/-- The point's rows laid end to end are entries of the whole convolution. -/
theorem chunk_feat (c : Dev nD) (t : Fin cfg0.N) (r : FVec Ideal S64x512 .f32)
    (hr : ∀ (n : Fin 64) (q : Fin 512), r (ix2 n q) = px (aX m c) n (32 * (15 - t.val) + 32) q.val) (n : Fin 64) (k : Fin 16352) :
    extf .f32 (chunk (F := Ideal) (iblk m c 0 t) (iblk m c 1 t) r) bitsLt_bf16_f32 (ix2 n k)
      = feat (aX m c) (aW m c) n (16352 * (15 - t.val) + k.val) := by
  rw [chunk_apply, convRow_apply]
  unfold feat conv
  rw [show (16352 * (15 - t.val) + k.val) / 511 = 32 * (15 - t.val) + k.val / 511 by omega,
    show (16352 * (15 - t.val) + k.val) % 511 = k.val % 511 by omega]
  simp only [imgRow_px, below_px m c t r hr]
  exact congrArg Ideal.tanh (congrArg₂ (· + ·)
    (congrArg₂ (· + ·) (congrArg (· * _) (iblk0_apply m c t 0)) (congrArg (· * _) (iblk0_apply m c t 2)))
    (congrArg₂ (· + ·) (congrArg (· * _) (iblk0_apply m c t 1)) (congrArg (· * _) (iblk0_apply m c t 3))))

/-- The weights of a point after the first. -/
theorem dblk_wt (c : Dev nD) (t : Fin cfg0.N) (ht : t.val ≠ 0) (k : Fin 16352) (o : Fin 128) :
    dblk m c t (ix2 k o) = wt (aD m c) o (16352 * (15 - t.val) + k.val) := by
  have h : 16352 * (15 - t.val) + k.val < 261121 := by omega
  unfold wt
  rw [dif_pos h]
  exact dblk_apply m c t k o h

/-- The first point has coordinate 0. -/
theorem coords_first : ∀ t : Fin cfg0.N, t.val = 0 → (grid0.coords t 0).val = 0 :=
  (by decide +kernel : ∀ t : Fin grid0.N, _)

/-- The sum after point `i`: the terms of the blocks walked so far. -/
theorem sumAt_apply (c : Dev nD) (n : Fin 64) (o : Fin 128) : ∀ (i : ℕ) (h : i < cfg0.N),
    sumAt m c i h (ix2 n o) = ∑ s ∈ Finset.range (i + 1), ∑ k : Fin 16352, term (aX m c) (aW m c) (aD m c) n o (16352 * (15 - s) + k.val)
  | 0, h => by
    rw [zero_add, Finset.sum_range_one]
    refine (accFirst_apply _ (coords_first ⟨0, h⟩ rfl) _ _ _ n o).trans (Finset.sum_congr rfl fun k _ => congrArg₂ (· * ·) ?_ ?_)
    · exact chunk_feat m c ⟨0, h⟩ _ (fun n q => (k0_pay7_apply n q).trans (px_below _ _ _ _ (Nat.lt_irrefl 512)).symm) n k
    · unfold wt
      by_cases hk : k.val < 15841
      · have h' : 16352 * (15 - 0) + k.val < 261121 := by omega
        rw [if_pos hk, dif_pos h']
        exact dblk_apply m c ⟨0, h⟩ k o h'
      · rw [if_neg hk, dif_neg (by omega)]
  | i + 1, h => by
    rw [Finset.sum_range_succ, ← sumAt_apply c n o i (Nat.lt_of_succ_lt h)]
    refine (k0_pay4_apply _ _ _ n o).trans (congrArg _ (Finset.sum_congr rfl fun k _ => congrArg₂ (· * ·) ?_ ?_))
    · refine chunk_feat m c ⟨i + 1, h⟩ _ (fun n q => ?_) n k
      have hN : cfg0.N = 16 := N_0
      rw [px_inside _ _ _ _ (by dsimp only; omega) q.isLt]
      refine (rowOut_apply _ n q).trans ((iblk1_apply m c _ n 0 q).trans ?_)
      refine congrArg (fun r => aX m c (ix3 n r q)) (Fin.ext ?_)
      show 32 * (15 - i) + 0 = 32 * (15 - (i + 1)) + 32
      omega
    · exact dblk_wt m c ⟨i + 1, h⟩ (Nat.succ_ne_zero i) k o

/-- What the program computes: the hyperbolic tangent of the dense layer over the whole convolution. -/
def out (c : Dev nD) : FVec Ideal S64x128 .f32 := fun j =>
  Ideal.tanh ((∑ k : Fin 261121, feat (aX m c) (aW m c) (j 0) k.val * aD m c (ix2 (j 1) k)) + aB m c (ix1 (j 1)))

/-- The same with the convolution written out. -/
theorem out_apply (c : Dev nD) (j : S64x128.Idx) :
    out m c j = Ideal.tanh ((∑ k : Fin 261121, Ideal.tanh
      (aW m c (ix4 0 0 0 0) * aX m c (ix3 (j 0) ⟨k.val / 511, by omega⟩ ⟨k.val % 511, by omega⟩)
        + aW m c (ix4 0 0 0 1) * aX m c (ix3 (j 0) ⟨k.val / 511, by omega⟩ ⟨1 + k.val % 511, by omega⟩)
        + aW m c (ix4 0 0 1 0) * aX m c (ix3 (j 0) ⟨1 + k.val / 511, by omega⟩ ⟨k.val % 511, by omega⟩)
        + aW m c (ix4 0 0 1 1) * aX m c (ix3 (j 0) ⟨1 + k.val / 511, by omega⟩ ⟨1 + k.val % 511, by omega⟩))
      * aD m c (ix2 (j 1) k)) + aB m c (ix1 (j 1))) := by
  unfold out
  exact congrArg (fun s : EReal => Ideal.tanh (s + aB m c (ix1 (j 1))))
    (Finset.sum_congr rfl fun k _ => congrArg (fun s : EReal => s * aD m c (ix2 (j 1) k)) (feat_apply _ _ (j 0) k))

/-- The output array after the run. -/
theorem final (c : Dev nD) : (dats m 0 c).arrAt 4 (cfgs 0).N = out m c := by
  refine (dats m 0 c).arrAt_eq_of_covers 4 _ (by decide +kernel) fun t hf y => ?_
  have ht : t.val = 15 := by
    have := (flush0_4 t).mp hf
    have hN : cfg0.N = 16 := N_0
    omega
  blk_simp
  rw [after_4]
  obtain ⟨n, o, rfl⟩ : ∃ (n : Fin 64) (o : Fin 128), y = (ix2 n o : S64x128.Idx) := ⟨y 0, y 1, by blk_ext⟩
  rw [show (win0_4.blk t).view.emb (ix2 n o : S64x128.Idx) = (ix2 n o : S64x128.Idx) by blk_ext [idx t]]
  refine (k0_pay6_apply _ _ n o).trans (congrArg Ideal.tanh (congrArg₂ (· + ·) ?_ (iblk3_apply m c t o)))
  rw [sumAt_apply, ht]
  exact sum_term _ _ _ n o

end Cert.KernelIdeal.Value

end
-- ==== Proof.lean ====
/- The proof of the certificate's claims: each program's frame, the two kernel programs' sameness, and the equation of the kernel's
   result with the reference's over the extended reals. -/
module

public import proofs.«01_k».proof.Defs
public import proofs.«01_k».proof.Proof.Kernel.Frame
public import proofs.«01_k».proof.Proof.KernelIdeal.Sum
public import proofs.«01_k».proof.Proof.Gen.Kernel
public import proofs.«01_k».proof.Proof.Gen.KernelIdeal
public import proofs.«01_k».proof.Proof.Gen.ReferenceIdeal.Run
public import proofs.«01_k».proof.Proof.Gen.ReferenceIdeal
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The kernel's frame. -/
theorem frame_Kernel : Cert.quiescent_Kernel := fun m g _ => Cert.Kernel.Body.frame m g

/-- The idealized kernel's frame. -/
theorem frame_KernelIdeal : Cert.quiescent_KernelIdeal := fun m g _ => Cert.KernelIdeal.Body.frame m g

/-- The reference's frame. -/
theorem frame_ReferenceIdeal : Cert.quiescent_ReferenceIdeal := by
  intro m g _
  exact (θ_run Cert.ReferenceIdeal.defs _ _).mono
    (fun r h => ⟨fun c => (h c).2, Idealize.ShloMosaic.sem_eq_zero_of_no_sems (by decide) r.2⟩) (Cert.ReferenceIdeal.Value.run m g)

/-- Over the extended reals the kernel's result is the reference's. -/
theorem algebraic : Cert.algebraic_KernelIdeal_ReferenceIdeal := by
  pair_intro
  · run_from Cert.KernelIdeal.Body.run_post m g
  · hlo_run
    refine Eq.trans ?_ (Cert.KernelIdeal.Value.final m c).symm
    funext j
    pointwise
    exact (Cert.KernelIdeal.Value.out_apply m c j).symm

/-- Everything the certificate claims. -/
theorem claim : Cert.Claim := ⟨Cert.Kernel.Gen.facts, Cert.KernelIdeal.Gen.facts, Cert.ReferenceIdeal.Gen.facts,
  frame_Kernel, frame_KernelIdeal, frame_ReferenceIdeal, trivial, algebraic⟩

end Cert.Proof

end
